-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SplitIdeal (m : (ℓ : Loc Cert.SplitIdeal.nD Cert.SplitIdeal.τ Cert.SplitIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13)
      ∧ r.2.mem ((c.tc : Thread Cert.Reference.nD Cert.Reference.τ).loc Cert.Reference.main_arg14) = m ((c.tc : Thread Cert.Reference.nD Cert.Reference.τ).loc Cert.Reference.main_arg14)
      ∧ r.2.mem ((c.tc : Thread Cert.Reference.nD Cert.Reference.τ).loc Cert.Reference.main_arg15) = m ((c.tc : Thread Cert.Reference.nD Cert.Reference.τ).loc Cert.Reference.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1)
      ∧ r.2.mem ((c.tc : Thread Cert.SplitIdeal.nD Cert.SplitIdeal.τ).loc Cert.SplitIdeal.main_arg2) = m ((c.tc : Thread Cert.SplitIdeal.nD Cert.SplitIdeal.τ).loc Cert.SplitIdeal.main_arg2)
      ∧ r.2.mem ((c.tc : Thread Cert.SplitIdeal.nD Cert.SplitIdeal.τ).loc Cert.SplitIdeal.main_arg3) = m ((c.tc : Thread Cert.SplitIdeal.nD Cert.SplitIdeal.τ).loc Cert.SplitIdeal.main_arg3)
      ∧ r.2.mem ((c.tc : Thread Cert.SplitIdeal.nD Cert.SplitIdeal.τ).loc Cert.SplitIdeal.main_arg4) = m ((c.tc : Thread Cert.SplitIdeal.nD Cert.SplitIdeal.τ).loc Cert.SplitIdeal.main_arg4)
      ∧ r.2.mem ((c.tc : Thread Cert.SplitIdeal.nD Cert.SplitIdeal.τ).loc Cert.SplitIdeal.main_arg5) = m ((c.tc : Thread Cert.SplitIdeal.nD Cert.SplitIdeal.τ).loc Cert.SplitIdeal.main_arg5)
      ∧ r.2.mem ((c.tc : Thread Cert.SplitIdeal.nD Cert.SplitIdeal.τ).loc Cert.SplitIdeal.main_arg6) = m ((c.tc : Thread Cert.SplitIdeal.nD Cert.SplitIdeal.τ).loc Cert.SplitIdeal.main_arg6)
      ∧ r.2.mem ((c.tc : Thread Cert.SplitIdeal.nD Cert.SplitIdeal.τ).loc Cert.SplitIdeal.main_arg7) = m ((c.tc : Thread Cert.SplitIdeal.nD Cert.SplitIdeal.τ).loc Cert.SplitIdeal.main_arg7)
      ∧ r.2.mem ((c.tc : Thread Cert.SplitIdeal.nD Cert.SplitIdeal.τ).loc Cert.SplitIdeal.main_arg8) = m ((c.tc : Thread Cert.SplitIdeal.nD Cert.SplitIdeal.τ).loc Cert.SplitIdeal.main_arg8)
      ∧ r.2.mem ((c.tc : Thread Cert.SplitIdeal.nD Cert.SplitIdeal.τ).loc Cert.SplitIdeal.main_arg9) = m ((c.tc : Thread Cert.SplitIdeal.nD Cert.SplitIdeal.τ).loc Cert.SplitIdeal.main_arg9)
      ∧ r.2.mem ((c.tc : Thread Cert.SplitIdeal.nD Cert.SplitIdeal.τ).loc Cert.SplitIdeal.main_arg10) = m ((c.tc : Thread Cert.SplitIdeal.nD Cert.SplitIdeal.τ).loc Cert.SplitIdeal.main_arg10)
      ∧ r.2.mem ((c.tc : Thread Cert.SplitIdeal.nD Cert.SplitIdeal.τ).loc Cert.SplitIdeal.main_arg11) = m ((c.tc : Thread Cert.SplitIdeal.nD Cert.SplitIdeal.τ).loc Cert.SplitIdeal.main_arg11)
      ∧ r.2.mem ((c.tc : Thread Cert.SplitIdeal.nD Cert.SplitIdeal.τ).loc Cert.SplitIdeal.main_arg12) = m ((c.tc : Thread Cert.SplitIdeal.nD Cert.SplitIdeal.τ).loc Cert.SplitIdeal.main_arg12)
      ∧ r.2.mem ((c.tc : Thread Cert.SplitIdeal.nD Cert.SplitIdeal.τ).loc Cert.SplitIdeal.main_arg13) = m ((c.tc : Thread Cert.SplitIdeal.nD Cert.SplitIdeal.τ).loc Cert.SplitIdeal.main_arg13)
      ∧ r.2.mem ((c.tc : Thread Cert.SplitIdeal.nD Cert.SplitIdeal.τ).loc Cert.SplitIdeal.main_arg14) = m ((c.tc : Thread Cert.SplitIdeal.nD Cert.SplitIdeal.τ).loc Cert.SplitIdeal.main_arg14)
      ∧ r.2.mem ((c.tc : Thread Cert.SplitIdeal.nD Cert.SplitIdeal.τ).loc Cert.SplitIdeal.main_arg15) = m ((c.tc : Thread Cert.SplitIdeal.nD Cert.SplitIdeal.τ).loc Cert.SplitIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def algebraic_KernelIdeal_SplitIdeal [hKernelIdeal : Cert.KernelIdeal.Facts] [hSplitIdeal : Cert.SplitIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SplitIdeal.nD Cert.SplitIdeal.τ Cert.SplitIdeal.sig) → Buf (Elt Ideal) ℓ) (g' : Dev Cert.SplitIdeal.nD → PrngReg), Pre_KernelIdeal m →
    (∀ c : Dev Cert.KernelIdeal.nD,
      m' ((c.tc : Thread Cert.SplitIdeal.nD Cert.SplitIdeal.τ).loc Cert.SplitIdeal.main_arg0) = m ((c.tc : Thread Cert.KernelIdeal.nD Cert.KernelIdeal.τ).loc Cert.KernelIdeal.main_arg0)
      ∧ m' ((c.tc : Thread Cert.SplitIdeal.nD Cert.SplitIdeal.τ).loc Cert.SplitIdeal.main_arg1) = m ((c.tc : Thread Cert.KernelIdeal.nD Cert.KernelIdeal.τ).loc Cert.KernelIdeal.main_arg1)
      ∧ m' ((c.tc : Thread Cert.SplitIdeal.nD Cert.SplitIdeal.τ).loc Cert.SplitIdeal.main_arg2) = m ((c.tc : Thread Cert.KernelIdeal.nD Cert.KernelIdeal.τ).loc Cert.KernelIdeal.main_arg2)
      ∧ m' ((c.tc : Thread Cert.SplitIdeal.nD Cert.SplitIdeal.τ).loc Cert.SplitIdeal.main_arg3) = m ((c.tc : Thread Cert.KernelIdeal.nD Cert.KernelIdeal.τ).loc Cert.KernelIdeal.main_arg3)
      ∧ m' ((c.tc : Thread Cert.SplitIdeal.nD Cert.SplitIdeal.τ).loc Cert.SplitIdeal.main_arg4) = m ((c.tc : Thread Cert.KernelIdeal.nD Cert.KernelIdeal.τ).loc Cert.KernelIdeal.main_arg4)
      ∧ m' ((c.tc : Thread Cert.SplitIdeal.nD Cert.SplitIdeal.τ).loc Cert.SplitIdeal.main_arg5) = m ((c.tc : Thread Cert.KernelIdeal.nD Cert.KernelIdeal.τ).loc Cert.KernelIdeal.main_arg5)
      ∧ m' ((c.tc : Thread Cert.SplitIdeal.nD Cert.SplitIdeal.τ).loc Cert.SplitIdeal.main_arg6) = m ((c.tc : Thread Cert.KernelIdeal.nD Cert.KernelIdeal.τ).loc Cert.KernelIdeal.main_arg6)
      ∧ m' ((c.tc : Thread Cert.SplitIdeal.nD Cert.SplitIdeal.τ).loc Cert.SplitIdeal.main_arg7) = m ((c.tc : Thread Cert.KernelIdeal.nD Cert.KernelIdeal.τ).loc Cert.KernelIdeal.main_arg7)
      ∧ m' ((c.tc : Thread Cert.SplitIdeal.nD Cert.SplitIdeal.τ).loc Cert.SplitIdeal.main_arg8) = m ((c.tc : Thread Cert.KernelIdeal.nD Cert.KernelIdeal.τ).loc Cert.KernelIdeal.main_arg8)
      ∧ m' ((c.tc : Thread Cert.SplitIdeal.nD Cert.SplitIdeal.τ).loc Cert.SplitIdeal.main_arg9) = m ((c.tc : Thread Cert.KernelIdeal.nD Cert.KernelIdeal.τ).loc Cert.KernelIdeal.main_arg9)
      ∧ m' ((c.tc : Thread Cert.SplitIdeal.nD Cert.SplitIdeal.τ).loc Cert.SplitIdeal.main_arg10) = m ((c.tc : Thread Cert.KernelIdeal.nD Cert.KernelIdeal.τ).loc Cert.KernelIdeal.main_arg10)
      ∧ m' ((c.tc : Thread Cert.SplitIdeal.nD Cert.SplitIdeal.τ).loc Cert.SplitIdeal.main_arg11) = m ((c.tc : Thread Cert.KernelIdeal.nD Cert.KernelIdeal.τ).loc Cert.KernelIdeal.main_arg11)
      ∧ m' ((c.tc : Thread Cert.SplitIdeal.nD Cert.SplitIdeal.τ).loc Cert.SplitIdeal.main_arg12) = m ((c.tc : Thread Cert.KernelIdeal.nD Cert.KernelIdeal.τ).loc Cert.KernelIdeal.main_arg12)
      ∧ m' ((c.tc : Thread Cert.SplitIdeal.nD Cert.SplitIdeal.τ).loc Cert.SplitIdeal.main_arg13) = m ((c.tc : Thread Cert.KernelIdeal.nD Cert.KernelIdeal.τ).loc Cert.KernelIdeal.main_arg13)
      ∧ m' ((c.tc : Thread Cert.SplitIdeal.nD Cert.SplitIdeal.τ).loc Cert.SplitIdeal.main_arg14) = m ((c.tc : Thread Cert.KernelIdeal.nD Cert.KernelIdeal.τ).loc Cert.KernelIdeal.main_arg14)
      ∧ m' ((c.tc : Thread Cert.SplitIdeal.nD Cert.SplitIdeal.τ).loc Cert.SplitIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.SplitIdeal.defs (F := Ideal)) (onTc (τ := Cert.SplitIdeal.τ) (Cert.SplitIdeal.main (F := Ideal))) ⟨m', fun _ => 0, g'⟩ (fun r => ∀ c : Dev Cert.SplitIdeal.nD,
          r.2.mem ((c.tc : Thread Cert.SplitIdeal.nD Cert.SplitIdeal.τ).loc Cert.SplitIdeal.main_v36) = v0 c
          ∧ r.2.mem ((c.tc : Thread Cert.SplitIdeal.nD Cert.SplitIdeal.τ).loc Cert.SplitIdeal.main_arg0) = m' ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m' ((c.tc : Thread Cert.SplitIdeal.nD Cert.SplitIdeal.τ).loc Cert.SplitIdeal.main_arg1)
          ∧ r.2.mem ((c.tc : Thread Cert.SplitIdeal.nD Cert.SplitIdeal.τ).loc Cert.SplitIdeal.main_arg2) = m' ((c.tc : Thread Cert.SplitIdeal.nD Cert.SplitIdeal.τ).loc Cert.SplitIdeal.main_arg2)
          ∧ r.2.mem ((c.tc : Thread Cert.SplitIdeal.nD Cert.SplitIdeal.τ).loc Cert.SplitIdeal.main_arg3) = m' ((c.tc : Thread Cert.SplitIdeal.nD Cert.SplitIdeal.τ).loc Cert.SplitIdeal.main_arg3)
          ∧ r.2.mem ((c.tc : Thread Cert.SplitIdeal.nD Cert.SplitIdeal.τ).loc Cert.SplitIdeal.main_arg4) = m' ((c.tc : Thread Cert.SplitIdeal.nD Cert.SplitIdeal.τ).loc Cert.SplitIdeal.main_arg4)
          ∧ r.2.mem ((c.tc : Thread Cert.SplitIdeal.nD Cert.SplitIdeal.τ).loc Cert.SplitIdeal.main_arg5) = m' ((c.tc : Thread Cert.SplitIdeal.nD Cert.SplitIdeal.τ).loc Cert.SplitIdeal.main_arg5)
          ∧ r.2.mem ((c.tc : Thread Cert.SplitIdeal.nD Cert.SplitIdeal.τ).loc Cert.SplitIdeal.main_arg6) = m' ((c.tc : Thread Cert.SplitIdeal.nD Cert.SplitIdeal.τ).loc Cert.SplitIdeal.main_arg6)
          ∧ r.2.mem ((c.tc : Thread Cert.SplitIdeal.nD Cert.SplitIdeal.τ).loc Cert.SplitIdeal.main_arg7) = m' ((c.tc : Thread Cert.SplitIdeal.nD Cert.SplitIdeal.τ).loc Cert.SplitIdeal.main_arg7)
          ∧ r.2.mem ((c.tc : Thread Cert.SplitIdeal.nD Cert.SplitIdeal.τ).loc Cert.SplitIdeal.main_arg8) = m' ((c.tc : Thread Cert.SplitIdeal.nD Cert.SplitIdeal.τ).loc Cert.SplitIdeal.main_arg8)
          ∧ r.2.mem ((c.tc : Thread Cert.SplitIdeal.nD Cert.SplitIdeal.τ).loc Cert.SplitIdeal.main_arg9) = m' ((c.tc : Thread Cert.SplitIdeal.nD Cert.SplitIdeal.τ).loc Cert.SplitIdeal.main_arg9)
          ∧ r.2.mem ((c.tc : Thread Cert.SplitIdeal.nD Cert.SplitIdeal.τ).loc Cert.SplitIdeal.main_arg10) = m' ((c.tc : Thread Cert.SplitIdeal.nD Cert.SplitIdeal.τ).loc Cert.SplitIdeal.main_arg10)
          ∧ r.2.mem ((c.tc : Thread Cert.SplitIdeal.nD Cert.SplitIdeal.τ).loc Cert.SplitIdeal.main_arg11) = m' ((c.tc : Thread Cert.SplitIdeal.nD Cert.SplitIdeal.τ).loc Cert.SplitIdeal.main_arg11)
          ∧ r.2.mem ((c.tc : Thread Cert.SplitIdeal.nD Cert.SplitIdeal.τ).loc Cert.SplitIdeal.main_arg12) = m' ((c.tc : Thread Cert.SplitIdeal.nD Cert.SplitIdeal.τ).loc Cert.SplitIdeal.main_arg12)
          ∧ r.2.mem ((c.tc : Thread Cert.SplitIdeal.nD Cert.SplitIdeal.τ).loc Cert.SplitIdeal.main_arg13) = m' ((c.tc : Thread Cert.SplitIdeal.nD Cert.SplitIdeal.τ).loc Cert.SplitIdeal.main_arg13)
          ∧ r.2.mem ((c.tc : Thread Cert.SplitIdeal.nD Cert.SplitIdeal.τ).loc Cert.SplitIdeal.main_arg14) = m' ((c.tc : Thread Cert.SplitIdeal.nD Cert.SplitIdeal.τ).loc Cert.SplitIdeal.main_arg14)
          ∧ r.2.mem ((c.tc : Thread Cert.SplitIdeal.nD Cert.SplitIdeal.τ).loc Cert.SplitIdeal.main_arg15) = m' ((c.tc : Thread Cert.SplitIdeal.nD Cert.SplitIdeal.τ).loc Cert.SplitIdeal.main_arg15))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)
      ∧ m' ((c.tc : Thread Cert.Reference.nD Cert.Reference.τ).loc Cert.Reference.main_arg8) = m ((c.tc : Thread Cert.Kernel.nD Cert.Kernel.τ).loc Cert.Kernel.main_arg8)
      ∧ m' ((c.tc : Thread Cert.Reference.nD Cert.Reference.τ).loc Cert.Reference.main_arg9) = m ((c.tc : Thread Cert.Kernel.nD Cert.Kernel.τ).loc Cert.Kernel.main_arg9)
      ∧ m' ((c.tc : Thread Cert.Reference.nD Cert.Reference.τ).loc Cert.Reference.main_arg10) = m ((c.tc : Thread Cert.Kernel.nD Cert.Kernel.τ).loc Cert.Kernel.main_arg10)
      ∧ m' ((c.tc : Thread Cert.Reference.nD Cert.Reference.τ).loc Cert.Reference.main_arg11) = m ((c.tc : Thread Cert.Kernel.nD Cert.Kernel.τ).loc Cert.Kernel.main_arg11)
      ∧ m' ((c.tc : Thread Cert.Reference.nD Cert.Reference.τ).loc Cert.Reference.main_arg12) = m ((c.tc : Thread Cert.Kernel.nD Cert.Kernel.τ).loc Cert.Kernel.main_arg12)
      ∧ m' ((c.tc : Thread Cert.Reference.nD Cert.Reference.τ).loc Cert.Reference.main_arg13) = m ((c.tc : Thread Cert.Kernel.nD Cert.Kernel.τ).loc Cert.Kernel.main_arg13)
      ∧ m' ((c.tc : Thread Cert.Reference.nD Cert.Reference.τ).loc Cert.Reference.main_arg14) = m ((c.tc : Thread Cert.Kernel.nD Cert.Kernel.τ).loc Cert.Kernel.main_arg14)
      ∧ m' ((c.tc : Thread Cert.Reference.nD Cert.Reference.τ).loc Cert.Reference.main_arg15) = m ((c.tc : Thread Cert.Kernel.nD Cert.Kernel.τ).loc Cert.Kernel.main_arg15)) →
    ∃ (v0 : (c : Dev Cert.Kernel.nD) → Buf (Elt Bits) ((c.tc : Thread Cert.Kernel.nD Cert.Kernel.τ).loc Cert.Kernel.main_v31)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v31) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)
          ∧ r.2.mem ((c.tc : Thread Cert.Kernel.nD Cert.Kernel.τ).loc Cert.Kernel.main_arg9) = m ((c.tc : Thread Cert.Kernel.nD Cert.Kernel.τ).loc Cert.Kernel.main_arg9)
          ∧ r.2.mem ((c.tc : Thread Cert.Kernel.nD Cert.Kernel.τ).loc Cert.Kernel.main_arg10) = m ((c.tc : Thread Cert.Kernel.nD Cert.Kernel.τ).loc Cert.Kernel.main_arg10)
          ∧ r.2.mem ((c.tc : Thread Cert.Kernel.nD Cert.Kernel.τ).loc Cert.Kernel.main_arg11) = m ((c.tc : Thread Cert.Kernel.nD Cert.Kernel.τ).loc Cert.Kernel.main_arg11)
          ∧ r.2.mem ((c.tc : Thread Cert.Kernel.nD Cert.Kernel.τ).loc Cert.Kernel.main_arg12) = m ((c.tc : Thread Cert.Kernel.nD Cert.Kernel.τ).loc Cert.Kernel.main_arg12)
          ∧ r.2.mem ((c.tc : Thread Cert.Kernel.nD Cert.Kernel.τ).loc Cert.Kernel.main_arg13) = m ((c.tc : Thread Cert.Kernel.nD Cert.Kernel.τ).loc Cert.Kernel.main_arg13)
          ∧ r.2.mem ((c.tc : Thread Cert.Kernel.nD Cert.Kernel.τ).loc Cert.Kernel.main_arg14) = m ((c.tc : Thread Cert.Kernel.nD Cert.Kernel.τ).loc Cert.Kernel.main_arg14)
          ∧ r.2.mem ((c.tc : Thread Cert.Kernel.nD Cert.Kernel.τ).loc Cert.Kernel.main_arg15) = m ((c.tc : Thread Cert.Kernel.nD Cert.Kernel.τ).loc Cert.Kernel.main_arg15))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v30) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7)
          ∧ r.2.mem ((c.tc : Thread Cert.Reference.nD Cert.Reference.τ).loc Cert.Reference.main_arg8) = m' ((c.tc : Thread Cert.Reference.nD Cert.Reference.τ).loc Cert.Reference.main_arg8)
          ∧ r.2.mem ((c.tc : Thread Cert.Reference.nD Cert.Reference.τ).loc Cert.Reference.main_arg9) = m' ((c.tc : Thread Cert.Reference.nD Cert.Reference.τ).loc Cert.Reference.main_arg9)
          ∧ r.2.mem ((c.tc : Thread Cert.Reference.nD Cert.Reference.τ).loc Cert.Reference.main_arg10) = m' ((c.tc : Thread Cert.Reference.nD Cert.Reference.τ).loc Cert.Reference.main_arg10)
          ∧ r.2.mem ((c.tc : Thread Cert.Reference.nD Cert.Reference.τ).loc Cert.Reference.main_arg11) = m' ((c.tc : Thread Cert.Reference.nD Cert.Reference.τ).loc Cert.Reference.main_arg11)
          ∧ r.2.mem ((c.tc : Thread Cert.Reference.nD Cert.Reference.τ).loc Cert.Reference.main_arg12) = m' ((c.tc : Thread Cert.Reference.nD Cert.Reference.τ).loc Cert.Reference.main_arg12)
          ∧ r.2.mem ((c.tc : Thread Cert.Reference.nD Cert.Reference.τ).loc Cert.Reference.main_arg13) = m' ((c.tc : Thread Cert.Reference.nD Cert.Reference.τ).loc Cert.Reference.main_arg13)
          ∧ r.2.mem ((c.tc : Thread Cert.Reference.nD Cert.Reference.τ).loc Cert.Reference.main_arg14) = m' ((c.tc : Thread Cert.Reference.nD Cert.Reference.τ).loc Cert.Reference.main_arg14)
          ∧ r.2.mem ((c.tc : Thread Cert.Reference.nD Cert.Reference.τ).loc Cert.Reference.main_arg15) = m' ((c.tc : Thread Cert.Reference.nD Cert.Reference.τ).loc Cert.Reference.main_arg15))

def Claim : Prop :=
  ∃ (hKernel : Cert.Kernel.Facts) (hKernelIdeal : Cert.KernelIdeal.Facts) (hReference : Cert.Reference.Facts) (hReferenceIdeal : Cert.ReferenceIdeal.Facts) (hSplitIdeal : Cert.SplitIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_SplitIdeal (hSplitIdeal := hSplitIdeal)
    ∧ preserves_Kernel_KernelIdeal
    ∧ algebraic_KernelIdeal_ReferenceIdeal (hKernelIdeal := hKernelIdeal) (hReferenceIdeal := hReferenceIdeal)
    ∧ algebraic_KernelIdeal_SplitIdeal (hKernelIdeal := hKernelIdeal) (hSplitIdeal := hSplitIdeal)
    ∧ bitexact_Kernel_Reference (hKernel := hKernel) (hReference := hReference)
-- ==== Kernel.lean ====
abbrev S16384 : Shape := ⟨1, ![16384]⟩
abbrev S1000000x32 : Shape := ⟨2, ![1000000, 32]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S40x1 : Shape := ⟨2, ![40, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x32 : Shape := ⟨2, ![16384, 32]⟩
abbrev S16384x64 : Shape := ⟨2, ![16384, 64]⟩
abbrev S1x32 : Shape := ⟨2, ![1, 32]⟩
abbrev S16384x16 : Shape := ⟨2, ![16384, 16]⟩
abbrev S1x16 : Shape := ⟨2, ![1, 16]⟩
abbrev S16384x8 : Shape := ⟨2, ![16384, 8]⟩
abbrev S1x8 : Shape := ⟨2, ![1, 8]⟩
abbrev S16384x40 : Shape := ⟨2, ![16384, 40]⟩

abbrev nBuf : Space → Nat
  | .hbm => 144
  | .vmem => 2
  | .smem => 0
  | _ => 0

abbrev hbmTy0_0 (i : Nat) : BufTy := match i % 128 with
  | 0 => ⟨S16384, .i32⟩
  | 1 => ⟨S16384, .i32⟩
  | 2 => ⟨S1000000x32, .f32⟩
  | 3 => ⟨S1000000x32, .f32⟩
  | 4 => ⟨S1000000x32, .f32⟩
  | 5 => ⟨S1000000x32, .f32⟩
  | 6 => ⟨S64x32, .f32⟩
  | 7 => ⟨S32, .f32⟩
  | 8 => ⟨S32x32, .f32⟩
  | 9 => ⟨S32, .f32⟩
  | 10 => ⟨S32x16, .f32⟩
  | 11 => ⟨S16, .f32⟩
  | 12 => ⟨S16x8, .f32⟩
  | 13 => ⟨S8, .f32⟩
  | 14 => ⟨S40x1, .f32⟩
  | 15 => ⟨S1, .f32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S1, .i32⟩
  | 25 => ⟨S_, .i32⟩
  | 26 => ⟨S16384x1, .i32⟩
  | 27 => ⟨S16384x1, .i1⟩
  | 28 => ⟨S1x1, .i32⟩
  | 29 => ⟨S16384x1, .i32⟩
  | 30 => ⟨S16384x1, .i1⟩
  | 31 => ⟨S16384x1, .i1⟩
  | 32 => ⟨S_, .i1⟩
  | 33 => ⟨S16384, .i1⟩
  | 34 => ⟨S16384x32, .f32⟩
  | 35 => ⟨S16384x32, .i1⟩
  | 36 => ⟨S_, .f32⟩
  | 37 => ⟨S16384x32, .f32⟩
  | 38 => ⟨S16384x32, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x32, .f32⟩
  | 58 => ⟨S16384x32, .i1⟩
  | 59 => ⟨S_, .f32⟩
  | 60 => ⟨S16384x32, .f32⟩
  | 61 => ⟨S16384x32, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S1, .i32⟩
  | 71 => ⟨S_, .i32⟩
  | 72 => ⟨S16384x1, .i32⟩
  | 73 => ⟨S16384x1, .i1⟩
  | 74 => ⟨S1x1, .i32⟩
  | 75 => ⟨S16384x1, .i32⟩
  | 76 => ⟨S16384x1, .i1⟩
  | 77 => ⟨S16384x1, .i1⟩
  | 78 => ⟨S_, .i1⟩
  | 79 => ⟨S16384, .i1⟩
  | 80 => ⟨S16384x32, .f32⟩
  | 81 => ⟨S16384x32, .i1⟩
  | 82 => ⟨S_, .f32⟩
  | 83 => ⟨S16384x32, .f32⟩
  | 84 => ⟨S16384x32, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S1, .i32⟩
  | 94 => ⟨S_, .i32⟩
  | 95 => ⟨S16384x1, .i32⟩
  | 96 => ⟨S16384x1, .i1⟩
  | 97 => ⟨S1x1, .i32⟩
  | 98 => ⟨S16384x1, .i32⟩
  | 99 => ⟨S16384x1, .i1⟩
  | 100 => ⟨S16384x1, .i1⟩
  | 101 => ⟨S_, .i1⟩
  | 102 => ⟨S16384, .i1⟩
  | 103 => ⟨S16384x32, .f32⟩
  | 104 => ⟨S16384x32, .i1⟩
  | 105 => ⟨S_, .f32⟩
  | 106 => ⟨S16384x32, .f32⟩
  | 107 => ⟨S16384x32, .f32⟩
  | 108 => ⟨S16384x32, .f32⟩
  | 109 => ⟨S16384x64, .f32⟩
  | 110 => ⟨S16384x32, .f32⟩
  | 111 => ⟨S1x32, .f32⟩
  | 112 => ⟨S16384x32, .f32⟩
  | 113 => ⟨S16384x32, .f32⟩
  | 114 => ⟨S_, .f32⟩
  | 115 => ⟨S16384x32, .f32⟩
  | 116 => ⟨S16384x32, .f32⟩
  | 117 => ⟨S16384x32, .f32⟩
  | 118 => ⟨S1x32, .f32⟩
  | 119 => ⟨S16384x32, .f32⟩
  | 120 => ⟨S16384x32, .f32⟩
  | 121 => ⟨S_, .f32⟩
  | 122 => ⟨S16384x32, .f32⟩
  | 123 => ⟨S16384x32, .f32⟩
  | 124 => ⟨S16384x16, .f32⟩
  | 125 => ⟨S1x16, .f32⟩
  | 126 => ⟨S16384x16, .f32⟩
  | 127 => ⟨S16384x16, .f32⟩
  | _ => ⟨S16384, .i32⟩

abbrev hbmTy0_1 (i : Nat) : BufTy := match i % 128 with
  | 0 => ⟨S_, .f32⟩
  | 1 => ⟨S16384x16, .f32⟩
  | 2 => ⟨S16384x16, .f32⟩
  | 3 => ⟨S16384x8, .f32⟩
  | 4 => ⟨S1x8, .f32⟩
  | 5 => ⟨S16384x8, .f32⟩
  | 6 => ⟨S16384x8, .f32⟩
  | 7 => ⟨S_, .f32⟩
  | 8 => ⟨S16384x8, .f32⟩
  | 9 => ⟨S16384x8, .f32⟩
  | 10 => ⟨S16384x40, .f32⟩
  | 11 => ⟨S16384x1, .f32⟩
  | 12 => ⟨S1x1, .f32⟩
  | 13 => ⟨S16384x1, .f32⟩
  | 14 => ⟨S16384x1, .f32⟩
  | 15 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S16384x1, .f32⟩
  | .local _ .vmem, ⟨1, _⟩ => ⟨S16384x1, .f32⟩
  | _, _ => ⟨S16384, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v2 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v3 : Ref sig .tc := ⟨.hbm, 107, rfl⟩
abbrev main_v4 : Ref sig .tc := ⟨.hbm, 108, rfl⟩
abbrev main_v5 : Ref sig .tc := ⟨.hbm, 109, rfl⟩
abbrev main_v6 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_call4_cst : Ref sig .tc := ⟨.hbm, 114, rfl⟩
abbrev main_call4_v0 : Ref sig .tc := ⟨.hbm, 115, rfl⟩
abbrev main_v10 : Ref sig .tc := ⟨.hbm, 116, rfl⟩
abbrev main_v11 : Ref sig .tc := ⟨.hbm, 117, rfl⟩
abbrev main_v12 : Ref sig .tc := ⟨.hbm, 118, rfl⟩
abbrev main_v13 : Ref sig .tc := ⟨.hbm, 119, rfl⟩
abbrev main_v14 : Ref sig .tc := ⟨.hbm, 120, rfl⟩
abbrev main_call5_cst : Ref sig .tc := ⟨.hbm, 121, rfl⟩
abbrev main_call5_v0 : Ref sig .tc := ⟨.hbm, 122, rfl⟩
abbrev main_v15 : Ref sig .tc := ⟨.hbm, 123, rfl⟩
abbrev main_v16 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_call6_cst : Ref sig .tc := ⟨.hbm, 128, rfl⟩
abbrev main_call6_v0 : Ref sig .tc := ⟨.hbm, 129, rfl⟩
abbrev main_v20 : Ref sig .tc := ⟨.hbm, 130, rfl⟩
abbrev main_v21 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_call7_cst : Ref sig .tc := ⟨.hbm, 135, rfl⟩
abbrev main_call7_v0 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16384x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S16384 : Shape := ⟨1, ![16384]⟩
abbrev S1000000x32 : Shape := ⟨2, ![1000000, 32]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S40x1 : Shape := ⟨2, ![40, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x32 : Shape := ⟨2, ![16384, 32]⟩
abbrev S16384x64 : Shape := ⟨2, ![16384, 64]⟩
abbrev S1x32 : Shape := ⟨2, ![1, 32]⟩
abbrev S16384x16 : Shape := ⟨2, ![16384, 16]⟩
abbrev S1x16 : Shape := ⟨2, ![1, 16]⟩
abbrev S16384x8 : Shape := ⟨2, ![16384, 8]⟩
abbrev S1x8 : Shape := ⟨2, ![1, 8]⟩
abbrev S16384x40 : Shape := ⟨2, ![16384, 40]⟩

abbrev nBuf : Space → Nat
  | .hbm => 143
  | .vmem => 0
  | .smem => 0
  | _ => 0

abbrev hbmTy0_0 (i : Nat) : BufTy := match i % 128 with
  | 0 => ⟨S16384, .i32⟩
  | 1 => ⟨S16384, .i32⟩
  | 2 => ⟨S1000000x32, .f32⟩
  | 3 => ⟨S1000000x32, .f32⟩
  | 4 => ⟨S1000000x32, .f32⟩
  | 5 => ⟨S1000000x32, .f32⟩
  | 6 => ⟨S64x32, .f32⟩
  | 7 => ⟨S32, .f32⟩
  | 8 => ⟨S32x32, .f32⟩
  | 9 => ⟨S32, .f32⟩
  | 10 => ⟨S32x16, .f32⟩
  | 11 => ⟨S16, .f32⟩
  | 12 => ⟨S16x8, .f32⟩
  | 13 => ⟨S8, .f32⟩
  | 14 => ⟨S40x1, .f32⟩
  | 15 => ⟨S1, .f32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S1, .i32⟩
  | 25 => ⟨S_, .i32⟩
  | 26 => ⟨S16384x1, .i32⟩
  | 27 => ⟨S16384x1, .i1⟩
  | 28 => ⟨S1x1, .i32⟩
  | 29 => ⟨S16384x1, .i32⟩
  | 30 => ⟨S16384x1, .i1⟩
  | 31 => ⟨S16384x1, .i1⟩
  | 32 => ⟨S_, .i1⟩
  | 33 => ⟨S16384, .i1⟩
  | 34 => ⟨S16384x32, .f32⟩
  | 35 => ⟨S16384x32, .i1⟩
  | 36 => ⟨S_, .f32⟩
  | 37 => ⟨S16384x32, .f32⟩
  | 38 => ⟨S16384x32, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x32, .f32⟩
  | 58 => ⟨S16384x32, .i1⟩
  | 59 => ⟨S_, .f32⟩
  | 60 => ⟨S16384x32, .f32⟩
  | 61 => ⟨S16384x32, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S1, .i32⟩
  | 71 => ⟨S_, .i32⟩
  | 72 => ⟨S16384x1, .i32⟩
  | 73 => ⟨S16384x1, .i1⟩
  | 74 => ⟨S1x1, .i32⟩
  | 75 => ⟨S16384x1, .i32⟩
  | 76 => ⟨S16384x1, .i1⟩
  | 77 => ⟨S16384x1, .i1⟩
  | 78 => ⟨S_, .i1⟩
  | 79 => ⟨S16384, .i1⟩
  | 80 => ⟨S16384x32, .f32⟩
  | 81 => ⟨S16384x32, .i1⟩
  | 82 => ⟨S_, .f32⟩
  | 83 => ⟨S16384x32, .f32⟩
  | 84 => ⟨S16384x32, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S1, .i32⟩
  | 94 => ⟨S_, .i32⟩
  | 95 => ⟨S16384x1, .i32⟩
  | 96 => ⟨S16384x1, .i1⟩
  | 97 => ⟨S1x1, .i32⟩
  | 98 => ⟨S16384x1, .i32⟩
  | 99 => ⟨S16384x1, .i1⟩
  | 100 => ⟨S16384x1, .i1⟩
  | 101 => ⟨S_, .i1⟩
  | 102 => ⟨S16384, .i1⟩
  | 103 => ⟨S16384x32, .f32⟩
  | 104 => ⟨S16384x32, .i1⟩
  | 105 => ⟨S_, .f32⟩
  | 106 => ⟨S16384x32, .f32⟩
  | 107 => ⟨S16384x32, .f32⟩
  | 108 => ⟨S16384x32, .f32⟩
  | 109 => ⟨S16384x64, .f32⟩
  | 110 => ⟨S16384x32, .f32⟩
  | 111 => ⟨S1x32, .f32⟩
  | 112 => ⟨S16384x32, .f32⟩
  | 113 => ⟨S16384x32, .f32⟩
  | 114 => ⟨S_, .f32⟩
  | 115 => ⟨S16384x32, .f32⟩
  | 116 => ⟨S16384x32, .f32⟩
  | 117 => ⟨S16384x32, .f32⟩
  | 118 => ⟨S1x32, .f32⟩
  | 119 => ⟨S16384x32, .f32⟩
  | 120 => ⟨S16384x32, .f32⟩
  | 121 => ⟨S_, .f32⟩
  | 122 => ⟨S16384x32, .f32⟩
  | 123 => ⟨S16384x32, .f32⟩
  | 124 => ⟨S16384x16, .f32⟩
  | 125 => ⟨S1x16, .f32⟩
  | 126 => ⟨S16384x16, .f32⟩
  | 127 => ⟨S16384x16, .f32⟩
  | _ => ⟨S16384, .i32⟩

abbrev hbmTy0_1 (i : Nat) : BufTy := match i % 128 with
  | 0 => ⟨S_, .f32⟩
  | 1 => ⟨S16384x16, .f32⟩
  | 2 => ⟨S16384x16, .f32⟩
  | 3 => ⟨S16384x8, .f32⟩
  | 4 => ⟨S1x8, .f32⟩
  | 5 => ⟨S16384x8, .f32⟩
  | 6 => ⟨S16384x8, .f32⟩
  | 7 => ⟨S_, .f32⟩
  | 8 => ⟨S16384x8, .f32⟩
  | 9 => ⟨S16384x8, .f32⟩
  | 10 => ⟨S16384x40, .f32⟩
  | 11 => ⟨S16384x1, .f32⟩
  | 12 => ⟨S1x1, .f32⟩
  | 13 => ⟨S16384x1, .f32⟩
  | 14 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v2 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v3 : Ref sig .tc := ⟨.hbm, 107, rfl⟩
abbrev main_v4 : Ref sig .tc := ⟨.hbm, 108, rfl⟩
abbrev main_v5 : Ref sig .tc := ⟨.hbm, 109, rfl⟩
abbrev main_v6 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_call4_cst : Ref sig .tc := ⟨.hbm, 114, rfl⟩
abbrev main_call4_v0 : Ref sig .tc := ⟨.hbm, 115, rfl⟩
abbrev main_v10 : Ref sig .tc := ⟨.hbm, 116, rfl⟩
abbrev main_v11 : Ref sig .tc := ⟨.hbm, 117, rfl⟩
abbrev main_v12 : Ref sig .tc := ⟨.hbm, 118, rfl⟩
abbrev main_v13 : Ref sig .tc := ⟨.hbm, 119, rfl⟩
abbrev main_v14 : Ref sig .tc := ⟨.hbm, 120, rfl⟩
abbrev main_call5_cst : Ref sig .tc := ⟨.hbm, 121, rfl⟩
abbrev main_call5_v0 : Ref sig .tc := ⟨.hbm, 122, rfl⟩
abbrev main_v15 : Ref sig .tc := ⟨.hbm, 123, rfl⟩
abbrev main_v16 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_call6_cst : Ref sig .tc := ⟨.hbm, 128, rfl⟩
abbrev main_call6_v0 : Ref sig .tc := ⟨.hbm, 129, rfl⟩
abbrev main_v20 : Ref sig .tc := ⟨.hbm, 130, rfl⟩
abbrev main_v21 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_call7_cst : Ref sig .tc := ⟨.hbm, 135, rfl⟩
abbrev main_call7_v0 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩

abbrev nD : Nat := 1
abbrev τ : Topo := Topo.v7x

variable {F : FTy → Type} [FloatOps F]
-- ==== SplitIdeal.lean ====
abbrev S16384 : Shape := ⟨1, ![16384]⟩
abbrev S1000000x32 : Shape := ⟨2, ![1000000, 32]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S40x1 : Shape := ⟨2, ![40, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x32 : Shape := ⟨2, ![16384, 32]⟩
abbrev S1x32 : Shape := ⟨2, ![1, 32]⟩
abbrev S16384x16 : Shape := ⟨2, ![16384, 16]⟩
abbrev S1x16 : Shape := ⟨2, ![1, 16]⟩
abbrev S16384x8 : Shape := ⟨2, ![16384, 8]⟩
abbrev S1x8 : Shape := ⟨2, ![1, 8]⟩
abbrev S32x1 : Shape := ⟨2, ![32, 1]⟩
abbrev S8x1 : Shape := ⟨2, ![8, 1]⟩

abbrev nBuf : Space → Nat
  | .hbm => 149
  | .vmem => 0
  | .smem => 0
  | _ => 0

abbrev hbmTy0_0 (i : Nat) : BufTy := match i % 128 with
  | 0 => ⟨S16384, .i32⟩
  | 1 => ⟨S16384, .i32⟩
  | 2 => ⟨S1000000x32, .f32⟩
  | 3 => ⟨S1000000x32, .f32⟩
  | 4 => ⟨S1000000x32, .f32⟩
  | 5 => ⟨S1000000x32, .f32⟩
  | 6 => ⟨S64x32, .f32⟩
  | 7 => ⟨S32, .f32⟩
  | 8 => ⟨S32x32, .f32⟩
  | 9 => ⟨S32, .f32⟩
  | 10 => ⟨S32x16, .f32⟩
  | 11 => ⟨S16, .f32⟩
  | 12 => ⟨S16x8, .f32⟩
  | 13 => ⟨S8, .f32⟩
  | 14 => ⟨S40x1, .f32⟩
  | 15 => ⟨S1, .f32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S1, .i32⟩
  | 25 => ⟨S_, .i32⟩
  | 26 => ⟨S16384x1, .i32⟩
  | 27 => ⟨S16384x1, .i1⟩
  | 28 => ⟨S1x1, .i32⟩
  | 29 => ⟨S16384x1, .i32⟩
  | 30 => ⟨S16384x1, .i1⟩
  | 31 => ⟨S16384x1, .i1⟩
  | 32 => ⟨S_, .i1⟩
  | 33 => ⟨S16384, .i1⟩
  | 34 => ⟨S16384x32, .f32⟩
  | 35 => ⟨S16384x32, .i1⟩
  | 36 => ⟨S_, .f32⟩
  | 37 => ⟨S16384x32, .f32⟩
  | 38 => ⟨S16384x32, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x32, .f32⟩
  | 58 => ⟨S16384x32, .i1⟩
  | 59 => ⟨S_, .f32⟩
  | 60 => ⟨S16384x32, .f32⟩
  | 61 => ⟨S16384x32, .f32⟩
  | 62 => ⟨S16384x32, .f32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S1, .i32⟩
  | 72 => ⟨S_, .i32⟩
  | 73 => ⟨S16384x1, .i32⟩
  | 74 => ⟨S16384x1, .i1⟩
  | 75 => ⟨S1x1, .i32⟩
  | 76 => ⟨S16384x1, .i32⟩
  | 77 => ⟨S16384x1, .i1⟩
  | 78 => ⟨S16384x1, .i1⟩
  | 79 => ⟨S_, .i1⟩
  | 80 => ⟨S16384, .i1⟩
  | 81 => ⟨S16384x32, .f32⟩
  | 82 => ⟨S16384x32, .i1⟩
  | 83 => ⟨S_, .f32⟩
  | 84 => ⟨S16384x32, .f32⟩
  | 85 => ⟨S16384x32, .f32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S1, .i32⟩
  | 95 => ⟨S_, .i32⟩
  | 96 => ⟨S16384x1, .i32⟩
  | 97 => ⟨S16384x1, .i1⟩
  | 98 => ⟨S1x1, .i32⟩
  | 99 => ⟨S16384x1, .i32⟩
  | 100 => ⟨S16384x1, .i1⟩
  | 101 => ⟨S16384x1, .i1⟩
  | 102 => ⟨S_, .i1⟩
  | 103 => ⟨S16384, .i1⟩
  | 104 => ⟨S16384x32, .f32⟩
  | 105 => ⟨S16384x32, .i1⟩
  | 106 => ⟨S_, .f32⟩
  | 107 => ⟨S16384x32, .f32⟩
  | 108 => ⟨S16384x32, .f32⟩
  | 109 => ⟨S32x32, .f32⟩
  | 110 => ⟨S16384x32, .f32⟩
  | 111 => ⟨S32x32, .f32⟩
  | 112 => ⟨S16384x32, .f32⟩
  | 113 => ⟨S16384x32, .f32⟩
  | 114 => ⟨S1x32, .f32⟩
  | 115 => ⟨S16384x32, .f32⟩
  | 116 => ⟨S16384x32, .f32⟩
  | 117 => ⟨S_, .f32⟩
  | 118 => ⟨S16384x32, .f32⟩
  | 119 => ⟨S16384x32, .f32⟩
  | 120 => ⟨S16384x32, .f32⟩
  | 121 => ⟨S1x32, .f32⟩
  | 122 => ⟨S16384x32, .f32⟩
  | 123 => ⟨S16384x32, .f32⟩
  | 124 => ⟨S_, .f32⟩
  | 125 => ⟨S16384x32, .f32⟩
  | 126 => ⟨S16384x32, .f32⟩
  | 127 => ⟨S16384x16, .f32⟩
  | _ => ⟨S16384, .i32⟩

abbrev hbmTy0_1 (i : Nat) : BufTy := match i % 128 with
  | 0 => ⟨S1x16, .f32⟩
  | 1 => ⟨S16384x16, .f32⟩
  | 2 => ⟨S16384x16, .f32⟩
  | 3 => ⟨S_, .f32⟩
  | 4 => ⟨S16384x16, .f32⟩
  | 5 => ⟨S16384x16, .f32⟩
  | 6 => ⟨S16384x8, .f32⟩
  | 7 => ⟨S1x8, .f32⟩
  | 8 => ⟨S16384x8, .f32⟩
  | 9 => ⟨S16384x8, .f32⟩
  | 10 => ⟨S_, .f32⟩
  | 11 => ⟨S16384x8, .f32⟩
  | 12 => ⟨S16384x8, .f32⟩
  | 13 => ⟨S32x1, .f32⟩
  | 14 => ⟨S16384x1, .f32⟩
  | 15 => ⟨S8x1, .f32⟩
  | 16 => ⟨S16384x1, .f32⟩
  | 17 => ⟨S16384x1, .f32⟩
  | 18 => ⟨S1x1, .f32⟩
  | 19 => ⟨S16384x1, .f32⟩
  | 20 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_v2 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v3 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v4 : Ref sig .tc := ⟨.hbm, 108, rfl⟩
abbrev main_v5 : Ref sig .tc := ⟨.hbm, 109, rfl⟩
abbrev main_v6 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_call4_cst : Ref sig .tc := ⟨.hbm, 117, rfl⟩
abbrev main_call4_v0 : Ref sig .tc := ⟨.hbm, 118, rfl⟩
abbrev main_v13 : Ref sig .tc := ⟨.hbm, 119, rfl⟩
abbrev main_v14 : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_call5_cst : Ref sig .tc := ⟨.hbm, 124, rfl⟩
abbrev main_call5_v0 : Ref sig .tc := ⟨.hbm, 125, rfl⟩
abbrev main_v18 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩
abbrev main_call6_cst : Ref sig .tc := ⟨.hbm, 131, rfl⟩
abbrev main_call6_v0 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_call7_cst : Ref sig .tc := ⟨.hbm, 138, rfl⟩
abbrev main_call7_v0 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩

abbrev nD : Nat := 1
abbrev τ : Topo := Topo.v7x

variable {F : FTy → Type} [FloatOps F]
-- ==== Proof.Score.lean ====
/- The scores as a pure term of the argument arrays, named layer by layer, for any reading of the
   floats. The kernel, the reference and the reference without concatenations are each read back
   in these words. -/
module

public import proofs.«01_k».proof.Proof.Gen.KernelIdeal

@[expose] public section

noncomputable section

namespace Cert.Score

open Cert.KernelIdeal Cert.KernelIdeal.Gen Idealize.ShloMosaic

variable {F : FTy → Type} [FloatOps F]

/-- Row numbers as a column, a negative one counted from the table's end. -/
def rowNumber (idx : Vec F S16384 .i32) : Vec F S16384x1 .i32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 1000000#32))) idx)

/-- Which row numbers name a row of the table. -/
def inTable (r : Vec F S16384x1 .i32) : Vec F S16384 .i1 :=
  Host.reduce IntOp.andi
    (andi (cmpi .sge r (broadcastInDim S16384x1 ![] bcast_S_S16384x1 (constantI S_ 32 0#32)))
      (cmpi .sle r (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The looked-up rows: the table's row where the number names one, the fill word elsewhere. -/
def lookup (table : Vec F S1000000x32 .f32) (idx : Vec F S16384 .i32) : Vec F S16384x32 .f32 :=
  select (broadcastInDim S16384x32 ![0] bcast_S16384_S16384x32_0 (inTable (F := F) (rowNumber (F := F) idx)))
    (Host.gather gather_S1000000x32_S16384x1_S16384x32_1_0_n_n_0_1_132 table (rowNumber (F := F) idx))
    (broadcastInDim S16384x32 ![] bcast_S_S16384x32 (constant S_ .f32 0x7FC00000#32))

/-- Two blocks of 32 columns side by side. -/
def beside (a b : Vec F S16384x32 .f32) : Vec F S16384x64 .f32 :=
  concatenate S16384x64 1 [⟨S16384x32, a⟩, ⟨S16384x32, b⟩] concatenates_S16384x32_S16384x32_S16384x64_d1

/-- The product branch beside the last layer of the other branch. -/
def beside' (a : Vec F S16384x32 .f32) (b : Vec F S16384x8 .f32) : Vec F S16384x40 .f32 :=
  concatenate S16384x40 1 [⟨S16384x32, a⟩, ⟨S16384x8, b⟩] concatenates_S16384x32_S16384x8_S16384x40_d1

/-- A bias row of 32 under every row of the batch. -/
def bias32 (b : Vec F S32 .f32) : Vec F S16384x32 .f32 :=
  broadcastInDim S16384x32 ![0, 1] bcast_S1x32_S16384x32_0_1 (broadcastInDim S1x32 ![1] bcast_S32_S1x32_1 b)

/-- The positive part of a layer of width 32. -/
def relu32 (x : Vec F S16384x32 .f32) : Vec F S16384x32 .f32 :=
  maximumf x (broadcastInDim S16384x32 ![] bcast_S_S16384x32 (constant S_ .f32 0x00000000#32))

/-- The first layer, of the two vectors side by side. -/
def layer1 (u v : Vec F S16384x32 .f32) (W1 : Vec F S64x32 .f32) (b1 : Vec F S32 .f32) : Vec F S16384x32 .f32 :=
  relu32 (addf (Host.dotGeneral dot_S16384x64_S64x32_S16384x32_1_0_0_1_n_n none (beside u v) W1) (bias32 b1))

/-- Layers two, three and four. -/
def tail (h : Vec F S16384x32 .f32) (W2 : Vec F S32x32 .f32) (b2 : Vec F S32 .f32) (W3 : Vec F S32x16 .f32)
    (b3 : Vec F S16 .f32) (W4 : Vec F S16x8 .f32) (b4 : Vec F S8 .f32) : Vec F S16384x8 .f32 :=
  maximumf (addf (Host.dotGeneral dot_S16384x16_S16x8_S16384x8_1_0_0_1_n_n none
    (maximumf (addf (Host.dotGeneral dot_S16384x32_S32x16_S16384x16_1_0_0_1_n_n none
      (relu32 (addf (Host.dotGeneral dot_S16384x32_S32x32_S16384x32_1_0_0_1_n_n none h W2) (bias32 b2))) W3)
        (broadcastInDim S16384x16 ![0, 1] bcast_S1x16_S16384x16_0_1 (broadcastInDim S1x16 ![1] bcast_S16_S1x16_1 b3)))
      (broadcastInDim S16384x16 ![] bcast_S_S16384x16 (constant S_ .f32 0x00000000#32))) W4)
        (broadcastInDim S16384x8 ![0, 1] bcast_S1x8_S16384x8_0_1 (broadcastInDim S1x8 ![1] bcast_S8_S1x8_1 b4)))
    (broadcastInDim S16384x8 ![] bcast_S_S16384x8 (constant S_ .f32 0x00000000#32))

/-- The head's one bias under every row of the batch. -/
def biasHead (bp : Vec F S1 .f32) : Vec F S16384x1 .f32 :=
  broadcastInDim S16384x1 ![0, 1] bcast_S1x1_S16384x1_0_1 (broadcastInDim S1x1 ![1] bcast_S1_S1x1_1 bp)

/-- The linear head, of the two branches side by side. -/
def head (p : Vec F S16384x32 .f32) (h : Vec F S16384x8 .f32) (Wp : Vec F S40x1 .f32) (bp : Vec F S1 .f32) :
    Vec F S16384x1 .f32 :=
  addf (Host.dotGeneral dot_S16384x40_S40x1_S16384x1_1_0_0_1_n_n none (beside' p h) Wp) (biasHead bp)

/-- The scores of the batch. -/
def score (user item : Vec F S16384 .i32) (ue_mf ie_mf ue_mlp ie_mlp : Vec F S1000000x32 .f32)
    (W1 : Vec F S64x32 .f32) (b1 : Vec F S32 .f32) (W2 : Vec F S32x32 .f32) (b2 : Vec F S32 .f32)
    (W3 : Vec F S32x16 .f32) (b3 : Vec F S16 .f32) (W4 : Vec F S16x8 .f32) (b4 : Vec F S8 .f32)
    (Wp : Vec F S40x1 .f32) (bp : Vec F S1 .f32) : Vec F S16384x1 .f32 :=
  head (mulf (lookup ue_mf user) (lookup ie_mf item))
    (tail (layer1 (lookup ue_mlp user) (lookup ie_mlp item) W1 b1) W2 b2 W3 b3 W4 b4) Wp bp

end Cert.Score

end
-- ==== Proof.Ideal.Copy.lean ====
/- What the kernel over the extended reals computes: its region copies the array that the host
   operations before it leave, and that array holds the scores (Score.lean). Stated for any
   reading of the floats. -/
module

public import proofs.«01_k».proof.Proof.Gen.KernelIdeal.Value
public import proofs.«01_k».proof.Proof.Score

@[expose] public section

noncomputable section

namespace Cert.KernelIdeal.Copy

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The body copies: what it leaves in the output's buffer is what it found in the input's. Its one load
    and its one store are of the whole block, and its cast is to the block's own shape. -/
theorem out_eq (x : Vec F S16384x1 .f32) : out0_1 x = x := by
  have hz : (![0, 0] : Fin S16384x1.rank → Nat) = fun _ => 0 := by funext a; fin_cases a <;> rfl
  unfold out0_1
  rw [View.ld_unit_zero hz, View.canon_unit_zero hz, Value.lay1_0_eq, shapeCast_self]

/-- The result array after the region is the array the region was given. -/
theorem arr_eq (c : Dev nD) : (dats m 0 c).arrAt 1 cfg0.N = V m c main_v30 := by
  refine (dats m 0 c).arrAt_eq_of_cover 1 (V m c main_v30) (fun t _ => ?_) (fun i => ?_)
  · rw [Value.flushed1, out_eq]
    rfl
  · refine ⟨t0_0, ?_, ?_⟩
    · decide
    · have h := ((cfg0.win 1).blk t0_0).view.emb_mem_set i
      have e : ((cfg0.win 1).blk t0_0).view.emb i = i := by
        funext a
        refine Fin.ext ?_
        match a with
        | ⟨0, _⟩ => exact (cfg0.win 1).rect_emb_val_of_index_zero t0_0 0 (by decide) i
        | ⟨1, _⟩ => exact (cfg0.win 1).rect_emb_val_of_index_zero t0_0 1 (by decide) i
      exact e ▸ h

/-- The first concatenation, under its name. -/
theorem beside_eq : (fun a b => concatenate S16384x64 1 [⟨S16384x32, a⟩, ⟨S16384x32, b⟩]
    concatenates_S16384x32_S16384x32_S16384x64_d1) = Score.beside (F := F) := rfl

/-- The second concatenation, under its name. -/
theorem beside'_eq : (fun a b => concatenate S16384x40 1 [⟨S16384x32, a⟩, ⟨S16384x8, b⟩]
    concatenates_S16384x32_S16384x8_S16384x40_d1) = Score.beside' (F := F) := rfl

/-- The scores of the arguments that a device holds. -/
def scores (c : Dev nD) : Vec F S16384x1 .f32 := Score.score (F := F)
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14)) (m ((c : Thread nD τ).loc main_arg15))

set_option maxRecDepth 8192 in
set_option maxHeartbeats 4000000 in
/-- The host operations before the region leave the scores of the arguments. -/
theorem host_eq (c : Dev nD) : V m c main_v30 = scores m c := by
  simp only [V, hostOps0, hostOps0_1, hostOps0_2, hostOps0_3, hostOps0_4, hostOps0_5, hostOps0_6, hostOps0_7,
    hostOps0_8, hostOps0_9, hostOps0_10, hostOps0_11, hostOps0_12, List.flatten_cons, List.flatten_nil,
    List.append_nil, List.cons_append, List.nil_append, TRef.binary, TRef.nullary, TRef.ternary, TRef.unary,
    TRef.toBuf, TRef.ofBuf, cast_eq, beside_eq, beside'_eq]
  after_results_simp
  rfl

/-- Every run ends with the scores in the result array and the arguments as they were. -/
theorem run : θ_run defs (onTc (τ := τ) (main (F := F))) ⟨m, fun _ => 0, ρ⟩ fun r => ∀ c : Dev nD,
    r.2.mem ((c : Thread nD τ).loc main_v31) = scores m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15) :=
  (θ_run _ _ _).mono (fun _ h c => ⟨(h c).1.trans ((arr_eq m c).trans (host_eq m c)), (h c).2⟩)
    (Value.run_blocks m ρ)

end Cert.KernelIdeal.Copy

end
-- ==== Proof.SplitProduct.lean ====
/- A product with two blocks of columns side by side is the sum of two products, over the extended
   reals: the first block with the upper rows of the weights, the second with the lower ones. -/
module

public import proofs.«01_k».proof.Proof.Score
public import proofs.«01_k».proof.Proof.Gen.SplitIdeal.Run
public import Idealize.ShloMosaic.Lib.StackMember
public import Idealize.ShloMosaic.Lib.Pipeline.Value

@[expose] public section

noncomputable section

namespace Cert.Score

open Idealize.ShloMosaic Idealize.ShloMosaic.ValueIdx

/-- Columns `A` and `B` side by side, times weights `W`, for matrices of any size: each contracted coordinate
    falls in `A`'s columns, met by `W`'s first `k₁` rows, or in `B`'s, met by the remaining `k₂`. -/
theorem dot_beside {b k₁ k₂ n : Nat}
    (A : FVec Ideal ⟨2, ![b, k₁]⟩ .f32) (B : FVec Ideal ⟨2, ![b, k₂]⟩ .f32) (W : FVec Ideal ⟨2, ![k₁ + k₂, n]⟩ .f32)
    (hc : Shape.Concatenates [⟨2, ![b, k₁]⟩, ⟨2, ![b, k₂]⟩] ⟨2, ![b, k₁ + k₂]⟩ 1)
    (hu : Shape.Slices ⟨2, ![k₁ + k₂, n]⟩ ![0, 0] ⟨2, ![k₁, n]⟩)
    (hl : Shape.Slices ⟨2, ![k₁ + k₂, n]⟩ ![k₁, 0] ⟨2, ![k₂, n]⟩) :
    Host.dotGeneral (DotDims.plain b (k₁ + k₂) n) none
        (concatenate ⟨2, ![b, k₁ + k₂]⟩ 1 [⟨⟨2, ![b, k₁]⟩, A⟩, ⟨⟨2, ![b, k₂]⟩, B⟩] hc : FVec Ideal _ .f32) W
      = addf (Host.dotGeneral (DotDims.plain b k₁ n) none A (extractStridedSlice ⟨2, ![k₁, n]⟩ ![0, 0] W hu : FVec Ideal _ .f32))
          (Host.dotGeneral (DotDims.plain b k₂ n) none B (extractStridedSlice ⟨2, ![k₂, n]⟩ ![k₁, 0] W hl : FVec Ideal _ .f32)) := by
  funext j
  obtain ⟨r, c, rfl⟩ : ∃ (r : Fin b) (c : Fin n), j = ix2 r c := ⟨_, _, eq_ix2 j⟩
  show _ = Host.dotGeneral (DotDims.plain b k₁ n) none A _ (ix2 r c)
    + Host.dotGeneral (DotDims.plain b k₂ n) none B _ (ix2 r c)
  rw [StackMember.dotGeneral_plain_apply, StackMember.dotGeneral_plain_apply, StackMember.dotGeneral_plain_apply,
    Fin.sum_univ_add]
  refine congrArg₂ (· + ·) (Finset.sum_congr rfl fun k _ => congrArg₂ (· * ·) ?_ ?_)
    (Finset.sum_congr rfl fun k _ => congrArg₂ (· * ·) ?_ ?_)
  · refine concatenate_pair_apply_left (t := ⟨2, ![b, k₁ + k₂]⟩) 1 A B hc _ rfl (ix2 r k) fun a => ?_
    match a with | ⟨0, _⟩ => rfl | ⟨1, _⟩ => rfl
  · refine (extractStridedSlice_apply _ _ _ _ _ fun a => ?_).symm
    match a with
    | ⟨0, _⟩ => exact (Nat.zero_add _).symm
    | ⟨1, _⟩ => exact (Nat.zero_add _).symm
  · refine concatenate_pair_apply_right (t := ⟨2, ![b, k₁ + k₂]⟩) 1 A B hc _ rfl rfl (ix2 r k) (fun a ha => ?_) ?_
    · match a with
      | ⟨0, _⟩ => rfl
      | ⟨1, _⟩ => exact absurd rfl ha
    · exact Nat.add_comm _ _
  · refine (extractStridedSlice_apply _ _ _ _ _ fun a => ?_).symm
    match a with
    | ⟨0, _⟩ => rfl
    | ⟨1, _⟩ => exact (Nat.zero_add _).symm

section
open Cert.SplitIdeal Cert.SplitIdeal.Gen

/-- The first layer with no concatenation: the user's vector meets the upper 32 rows of the weights, the
    item's the lower 32. -/
def layer1Split (u v : FVec Ideal S16384x32 .f32) (W1 : FVec Ideal S64x32 .f32) (b1 : FVec Ideal S32 .f32) :
    FVec Ideal S16384x32 .f32 :=
  relu32 (F := Ideal) (addf (addf (Host.dotGeneral (φ₁ := .f32) (φ₂ := .f32) dot_S16384x32_S32x32_S16384x32_1_0_0_1_n_n none u
      (extractStridedSlice S32x32 ![0, 0] W1 slices_S64x32_S32x32_0_0))
    (Host.dotGeneral (φ₁ := .f32) (φ₂ := .f32) dot_S16384x32_S32x32_S16384x32_1_0_0_1_n_n none v
      (extractStridedSlice S32x32 ![32, 0] W1 slices_S64x32_S32x32_32_0))) (bias32 (F := Ideal) b1))

/-- The head with no concatenation. -/
def headSplit (p : FVec Ideal S16384x32 .f32) (h : FVec Ideal S16384x8 .f32) (Wp : FVec Ideal S40x1 .f32)
    (bp : FVec Ideal S1 .f32) : FVec Ideal S16384x1 .f32 :=
  addf (addf (Host.dotGeneral (φ₁ := .f32) (φ₂ := .f32) dot_S16384x32_S32x1_S16384x1_1_0_0_1_n_n none p
      (extractStridedSlice S32x1 ![0, 0] Wp slices_S40x1_S32x1_0_0))
    (Host.dotGeneral (φ₁ := .f32) (φ₂ := .f32) dot_S16384x8_S8x1_S16384x1_1_0_0_1_n_n none h
      (extractStridedSlice S8x1 ![32, 0] Wp slices_S40x1_S8x1_32_0))) (biasHead (F := Ideal) bp)

/-- Both spellings of the first layer agree. -/
theorem layer1_eq_split (u v : FVec Ideal S16384x32 .f32) (W1 : FVec Ideal S64x32 .f32) (b1 : FVec Ideal S32 .f32) :
    layer1 (F := Ideal) u v W1 b1 = layer1Split u v W1 b1 :=
  congrArg (fun x : FVec Ideal S16384x32 .f32 => relu32 (F := Ideal) (addf x (bias32 (F := Ideal) b1)))
    (dot_beside (k₁ := 32) (k₂ := 32) u v W1
      _ slices_S64x32_S32x32_0_0 slices_S64x32_S32x32_32_0)

/-- Both spellings of the head agree. -/
theorem head_eq_split (p : FVec Ideal S16384x32 .f32) (h : FVec Ideal S16384x8 .f32) (Wp : FVec Ideal S40x1 .f32)
    (bp : FVec Ideal S1 .f32) : head (F := Ideal) p h Wp bp = headSplit p h Wp bp :=
  congrArg (fun x : FVec Ideal S16384x1 .f32 => addf (F := Ideal) x (biasHead (F := Ideal) bp))
    (dot_beside (k₁ := 32) (k₂ := 8) p h Wp
      _ slices_S40x1_S32x1_0_0 slices_S40x1_S8x1_32_0)

end

end Cert.Score

end
-- ==== Proof.Readback.lean ====
/- What the references compute, in the words of Score.lean: the plain reference over either reading of
   the floats, and the reference without concatenations over the extended reals. -/
module

public import proofs.«01_k».proof.Proof.Score
public import proofs.«01_k».proof.Proof.SplitProduct
public import proofs.«01_k».proof.Proof.Gen.Reference.Run
public import proofs.«01_k».proof.Proof.Gen.ReferenceIdeal.Run
public import proofs.«01_k».proof.Proof.Gen.SplitIdeal.Run

@[expose] public section

noncomputable section

namespace Cert.Reference.Value

open Cert.Reference Cert.Reference.Gen Idealize.ShloMosaic Idealize.ShloMosaic.TcCoe Idealize.SL.Sem

variable {F : FTy → Type} [FloatOps F]

set_option maxRecDepth 8192 in
/-- The reference's result is the scores. -/
theorem out_eq_score (m : (ℓ : Loc nD τ sig) → Buf (Elt F) ℓ) (c : Dev nD) :
    res_out0 m c = Score.score (F := F)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15)) := by
  unfold res_out0 res_main_v30
  rfl

end Cert.Reference.Value

namespace Cert.ReferenceIdeal.Value

open Cert.ReferenceIdeal Cert.ReferenceIdeal.Gen Idealize.ShloMosaic Idealize.ShloMosaic.TcCoe Idealize.SL.Sem

variable {F : FTy → Type} [FloatOps F]

set_option maxRecDepth 8192 in
/-- The result of the reference over the extended reals is the scores. -/
theorem out_eq_score (m : (ℓ : Loc nD τ sig) → Buf (Elt F) ℓ) (c : Dev nD) :
    res_out0 m c = Score.score (F := F)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15)) := by
  unfold res_out0 res_main_v30
  rfl

end Cert.ReferenceIdeal.Value

namespace Cert.SplitIdeal.Value

open Cert.SplitIdeal Cert.SplitIdeal.Gen Idealize.ShloMosaic Idealize.ShloMosaic.TcCoe Idealize.SL.Sem

/-- The scores with both concatenations replaced by sums of two products. -/
theorem score_eq_split (user item : Vec Ideal S16384 .i32) (ue_mf ie_mf ue_mlp ie_mlp : FVec Ideal S1000000x32 .f32)
    (W1 : FVec Ideal S64x32 .f32) (b1 : FVec Ideal S32 .f32) (W2 : FVec Ideal S32x32 .f32) (b2 : FVec Ideal S32 .f32)
    (W3 : FVec Ideal S32x16 .f32) (b3 : FVec Ideal S16 .f32) (W4 : FVec Ideal S16x8 .f32) (b4 : FVec Ideal S8 .f32)
    (Wp : FVec Ideal S40x1 .f32) (bp : FVec Ideal S1 .f32) :
    Score.score (F := Ideal) user item ue_mf ie_mf ue_mlp ie_mlp W1 b1 W2 b2 W3 b3 W4 b4 Wp bp
      = Score.headSplit (mulf (Score.lookup (F := Ideal) ue_mf user) (Score.lookup (F := Ideal) ie_mf item))
        (Score.tail (F := Ideal) (Score.layer1Split (Score.lookup (F := Ideal) ue_mlp user)
          (Score.lookup (F := Ideal) ie_mlp item) W1 b1) W2 b2 W3 b3 W4 b4) Wp bp := by
  unfold Score.score
  rw [Score.layer1_eq_split, Score.head_eq_split]

set_option maxRecDepth 8192 in
/-- The result of the reference without concatenations is the scores too. -/
theorem out_eq_score (m : (ℓ : Loc nD τ sig) → Buf (Elt Ideal) ℓ) (c : Dev nD) :
    res_out0 m c = Score.score (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15)) := by
  refine Eq.trans ?_ (score_eq_split _ _ _ _ _ _ _ _ _ _ _ _ _ _ _ _).symm
  unfold res_out0 res_main_v36
  rfl

end Cert.SplitIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Reference.Run
public import proofs.«01_k».proof.Proof.Gen.SplitIdeal.Run
public import proofs.«01_k».proof.Proof.Gen.Kernel.Value
public import proofs.«01_k».proof.Proof.Ideal.Copy
public import proofs.«01_k».proof.Proof.Words.Copy
public import proofs.«01_k».proof.Proof.SplitProduct
public import proofs.«01_k».proof.Proof.Readback
public import Idealize.ShloMosaic.Adequacy
public import Idealize.ShloMosaic.Init
public import Idealize.ShloMosaic.Lib.Quiescent

@[expose] public section

noncomputable section

namespace Cert.Proof

open Idealize.ShloMosaic Idealize.SL.Sem

section
open Cert.KernelIdeal

/-- Equal arguments have equal scores. -/
theorem same {F : FTy → Type} [FloatOps F]
    {user user' : Vec F S16384 .i32}
    {item item' : Vec F S16384 .i32}
    {ue_mf ue_mf' : Vec F S1000000x32 .f32}
    {ie_mf ie_mf' : Vec F S1000000x32 .f32}
    {ue_mlp ue_mlp' : Vec F S1000000x32 .f32}
    {ie_mlp ie_mlp' : Vec F S1000000x32 .f32}
    {W1 W1' : Vec F S64x32 .f32}
    {b1 b1' : Vec F S32 .f32}
    {W2 W2' : Vec F S32x32 .f32}
    {b2 b2' : Vec F S32 .f32}
    {W3 W3' : Vec F S32x16 .f32}
    {b3 b3' : Vec F S16 .f32}
    {W4 W4' : Vec F S16x8 .f32}
    {b4 b4' : Vec F S8 .f32}
    {Wp Wp' : Vec F S40x1 .f32}
    {bp bp' : Vec F S1 .f32}
    (h0 : user' = user)
    (h1 : item' = item)
    (h2 : ue_mf' = ue_mf)
    (h3 : ie_mf' = ie_mf)
    (h4 : ue_mlp' = ue_mlp)
    (h5 : ie_mlp' = ie_mlp)
    (h6 : W1' = W1)
    (h7 : b1' = b1)
    (h8 : W2' = W2)
    (h9 : b2' = b2)
    (h10 : W3' = W3)
    (h11 : b3' = b3)
    (h12 : W4' = W4)
    (h13 : b4' = b4)
    (h14 : Wp' = Wp)
    (h15 : bp' = bp) :
    Score.score (F := F) user' item' ue_mf' ie_mf' ue_mlp' ie_mlp' W1' b1' W2' b2' W3' b3' W4' b4' Wp' bp'
      = Score.score (F := F) user item ue_mf ie_mf ue_mlp ie_mlp W1 b1 W2 b2 W3 b3 W4 b4 Wp bp := by
  subst h0 h1 h2 h3 h4 h5 h6 h7 h8 h9 h10 h11 h12 h13 h14 h15
  rfl

end

/-- Reference runs, keeps its arguments and signals nothing. -/
theorem quiescent_Reference : Cert.quiescent_Reference (hReference := Cert.Reference.Gen.facts) := fun m g _ =>
  (θ_run _ _ _).mono (fun r h => ⟨fun c => (h c).2, sem_eq_zero_of_no_sems (by decide) r.2⟩)
    (Cert.Reference.Value.run m g)

/-- ReferenceIdeal runs, keeps its arguments and signals nothing. -/
theorem quiescent_ReferenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

/-- SplitIdeal runs, keeps its arguments and signals nothing. -/
theorem quiescent_SplitIdeal : Cert.quiescent_SplitIdeal (hSplitIdeal := Cert.SplitIdeal.Gen.facts) := fun m g _ =>
  (θ_run _ _ _).mono (fun r h => ⟨fun c => (h c).2, sem_eq_zero_of_no_sems (by decide) r.2⟩)
    (Cert.SplitIdeal.Value.run m g)

/-- Over the extended reals the kernel's result is the reference's. -/
theorem algebraic_KernelIdeal_ReferenceIdeal : Cert.algebraic_KernelIdeal_ReferenceIdeal
    (hKernelIdeal := Cert.KernelIdeal.Gen.facts) (hReferenceIdeal := Cert.ReferenceIdeal.Gen.facts) := by
  intro m g m' g' _ agree
  refine ⟨Cert.KernelIdeal.Copy.scores m, Cert.KernelIdeal.Copy.run m g,
    (θ_run _ _ _).mono (fun _ h c => ⟨(h c).1.trans ?_, (h c).2⟩) (Cert.ReferenceIdeal.Value.run m' g')⟩
  obtain ⟨h0, h1, h2, h3, h4, h5, h6, h7, h8, h9, h10, h11, h12, h13, h14, h15⟩ := agree c
  refine (Cert.ReferenceIdeal.Value.out_eq_score m' c).trans ?_
  exact same h0 h1 h2 h3 h4 h5 h6 h7 h8 h9 h10 h11 h12 h13 h14 h15

/-- Over the extended reals the kernel's result is that of the reference without concatenations. -/
theorem algebraic_KernelIdeal_SplitIdeal : Cert.algebraic_KernelIdeal_SplitIdeal
    (hKernelIdeal := Cert.KernelIdeal.Gen.facts) (hSplitIdeal := Cert.SplitIdeal.Gen.facts) := by
  intro m g m' g' _ agree
  refine ⟨Cert.KernelIdeal.Copy.scores m, Cert.KernelIdeal.Copy.run m g,
    (θ_run _ _ _).mono (fun _ h c => ⟨(h c).1.trans ?_, (h c).2⟩) (Cert.SplitIdeal.Value.run m' g')⟩
  obtain ⟨h0, h1, h2, h3, h4, h5, h6, h7, h8, h9, h10, h11, h12, h13, h14, h15⟩ := agree c
  refine (Cert.SplitIdeal.Value.out_eq_score m' c).trans ?_
  exact same h0 h1 h2 h3 h4 h5 h6 h7 h8 h9 h10 h11 h12 h13 h14 h15

/-- Over machine words the kernel's result is the reference's, word for word. -/
theorem bitexact_Kernel_Reference : Cert.bitexact_Kernel_Reference
    (hKernel := Cert.Kernel.Gen.facts) (hReference := Cert.Reference.Gen.facts) := by
  intro m g m' g' _ agree
  refine ⟨Cert.Kernel.Copy.scores m, Cert.Kernel.Copy.run m g,
    (θ_run _ _ _).mono (fun _ h c => ⟨(h c).1.trans ?_, (h c).2⟩) (Cert.Reference.Value.run m' g')⟩
  obtain ⟨h0, h1, h2, h3, h4, h5, h6, h7, h8, h9, h10, h11, h12, h13, h14, h15⟩ := agree c
  refine (Cert.Reference.Value.out_eq_score m' c).trans ?_
  exact same h0 h1 h2 h3 h4 h5 h6 h7 h8 h9 h10 h11 h12 h13 h14 h15

theorem claim : Cert.Claim :=
  ⟨Cert.Kernel.Gen.facts, Cert.KernelIdeal.Gen.facts, Cert.Reference.Gen.facts, Cert.ReferenceIdeal.Gen.facts,
    Cert.SplitIdeal.Gen.facts,
    fun m g _ => Cert.Kernel.Gen.frame m g, fun m g _ => Cert.KernelIdeal.Gen.frame m g,
    quiescent_Reference, quiescent_ReferenceIdeal, quiescent_SplitIdeal, trivial,
    algebraic_KernelIdeal_ReferenceIdeal, algebraic_KernelIdeal_SplitIdeal, bitexact_Kernel_Reference⟩

end Cert.Proof

end
